-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "sqrt_half" .f32 0x3F3504F3#32 ((Real.sqrt (1 / 2) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x8x2048 : Shape := ⟨3, ![32, 8, 2048]⟩
abbrev S2048x768 : Shape := ⟨2, ![2048, 768]⟩
abbrev S768 : Shape := ⟨1, ![768]⟩
abbrev S768x100000 : Shape := ⟨2, ![768, 100000]⟩
abbrev S100000 : Shape := ⟨1, ![100000]⟩
abbrev S256x2048 : Shape := ⟨2, ![256, 2048]⟩
abbrev S1x768 : Shape := ⟨2, ![1, 768]⟩
abbrev S1x100000 : Shape := ⟨2, ![1, 100000]⟩
abbrev S256x100000 : Shape := ⟨2, ![256, 100000]⟩
abbrev S32x8x100000 : Shape := ⟨3, ![32, 8, 100000]⟩
abbrev S768x4096 : Shape := ⟨2, ![768, 4096]⟩
abbrev S1x4096 : Shape := ⟨2, ![1, 4096]⟩
abbrev S256x4096 : Shape := ⟨2, ![256, 4096]⟩
abbrev S256x768 : Shape := ⟨2, ![256, 768]⟩

abbrev nBuf : Space → Nat
  | .hbm => 10
  | .vmem => 10
  | .smem => 0
  | _ => 0

abbrev bufTy : (tb : Table) → Fin (tcTables nBuf tb) → BufTy
  | .hbm, ⟨0, _⟩ => ⟨S32x8x2048, .f32⟩
  | .hbm, ⟨1, _⟩ => ⟨S2048x768, .f32⟩
  | .hbm, ⟨2, _⟩ => ⟨S768, .f32⟩
  | .hbm, ⟨3, _⟩ => ⟨S768x100000, .f32⟩
  | .hbm, ⟨4, _⟩ => ⟨S100000, .f32⟩
  | .hbm, ⟨5, _⟩ => ⟨S256x2048, .f32⟩
  | .hbm, ⟨6, _⟩ => ⟨S1x768, .f32⟩
  | .hbm, ⟨7, _⟩ => ⟨S1x100000, .f32⟩
  | .hbm, ⟨8, _⟩ => ⟨S256x100000, .f32⟩
  | .hbm, ⟨9, _⟩ => ⟨S32x8x100000, .f32⟩
  | .local _ .vmem, ⟨0, _⟩ => ⟨S256x2048, .f32⟩
  | .local _ .vmem, ⟨1, _⟩ => ⟨S2048x768, .f32⟩
  | .local _ .vmem, ⟨2, _⟩ => ⟨S1x768, .f32⟩
  | .local _ .vmem, ⟨3, _⟩ => ⟨S768x4096, .f32⟩
  | .local _ .vmem, ⟨4, _⟩ => ⟨S768x4096, .f32⟩
  | .local _ .vmem, ⟨5, _⟩ => ⟨S1x4096, .f32⟩
  | .local _ .vmem, ⟨6, _⟩ => ⟨S1x4096, .f32⟩
  | .local _ .vmem, ⟨7, _⟩ => ⟨S256x4096, .f32⟩
  | .local _ .vmem, ⟨8, _⟩ => ⟨S256x4096, .f32⟩
  | .local _ .vmem, ⟨9, _⟩ => ⟨S256x768, .f32⟩
  | _, _ => ⟨S32x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S768x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "sqrt_half" => some ((Real.sqrt (1 / 2) : ℝ) : EReal)
  | _ => none
-- ==== ReferenceIdeal.lean ====
abbrev S32x8x2048 : Shape := ⟨3, ![32, 8, 2048]⟩
abbrev S2048x768 : Shape := ⟨2, ![2048, 768]⟩
abbrev S768 : Shape := ⟨1, ![768]⟩
abbrev S768x100000 : Shape := ⟨2, ![768, 100000]⟩
abbrev S100000 : Shape := ⟨1, ![100000]⟩
abbrev S32x8x768 : Shape := ⟨3, ![32, 8, 768]⟩
abbrev S1x1x768 : Shape := ⟨3, ![1, 1, 768]⟩
abbrev S_ : Shape := ⟨0, ![]⟩
abbrev S32x8x100000 : Shape := ⟨3, ![32, 8, 100000]⟩
abbrev S1x1x100000 : Shape := ⟨3, ![1, 1, 100000]⟩

abbrev nBuf : Space → Nat
  | .hbm => 23
  | .vmem => 0
  | .smem => 0
  | _ => 0

abbrev bufTy : (tb : Table) → Fin (tcTables nBuf tb) → BufTy
  | .hbm, ⟨0, _⟩ => ⟨S32x8x2048, .f32⟩
  | .hbm, ⟨1, _⟩ => ⟨S2048x768, .f32⟩
  | .hbm, ⟨2, _⟩ => ⟨S768, .f32⟩
  | .hbm, ⟨3, _⟩ => ⟨S768x100000, .f32⟩
  | .hbm, ⟨4, _⟩ => ⟨S100000, .f32⟩
  | .hbm, ⟨5, _⟩ => ⟨S32x8x768, .f32⟩
  | .hbm, ⟨6, _⟩ => ⟨S1x1x768, .f32⟩
  | .hbm, ⟨7, _⟩ => ⟨S32x8x768, .f32⟩
  | .hbm, ⟨8, _⟩ => ⟨S32x8x768, .f32⟩
  | .hbm, ⟨9, _⟩ => ⟨S_, .f32⟩
  | .hbm, ⟨10, _⟩ => ⟨S32x8x768, .f32⟩
  | .hbm, ⟨11, _⟩ => ⟨S32x8x768, .f32⟩
  | .hbm, ⟨12, _⟩ => ⟨S32x8x768, .f32⟩
  | .hbm, ⟨13, _⟩ => ⟨S_, .f32⟩
  | .hbm, ⟨14, _⟩ => ⟨S_, .f32⟩
  | .hbm, ⟨15, _⟩ => ⟨S32x8x768, .f32⟩
  | .hbm, ⟨16, _⟩ => ⟨S32x8x768, .f32⟩
  | .hbm, ⟨17, _⟩ => ⟨S32x8x768, .f32⟩
  | .hbm, ⟨18, _⟩ => ⟨S32x8x768, .f32⟩
  | .hbm, ⟨19, _⟩ => ⟨S32x8x100000, .f32⟩
  | .hbm, ⟨20, _⟩ => ⟨S1x1x100000, .f32⟩
  | .hbm, ⟨21, _⟩ => ⟨S32x8x100000, .f32⟩
  | .hbm, ⟨22, _⟩ => ⟨S32x8x100000, .f32⟩
  | _, _ => ⟨S32x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.KernelFrame.lean ====
/-
  The machine program `Kernel` on bit patterns: it runs to its end from any memory, leaves its five arguments as they
  were, and leaves every semaphore counter at zero. Nothing is said here of what it writes into the result, so
  nothing needs to be known of the values: every staging buffer and the scratch buffer are held at contents left open.
-/
module

public import proofs.«01_k».proof.Defs
public import proofs.«01_k».proof.Proof.Gen.Kernel.Frame
public import proofs.«01_k».proof.Proof.Gen.Kernel.Skeleton

@[expose] public section

noncomputable section

namespace Cert.Kernel.FrameProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

/-- The body calls no labelled code, so there is no variant to supply. -/
abbrev noVariants : Variants := Variants.none

/-- A buffer held whole, at some contents. -/
abbrev held (c : Dev nD) {sh : Shape} {e : EltTy} (M : Memref sig .tc .vmem sh e) : sProp 𝕄 :=
  iprop(∃ X : sh.Idx → Elt F e, owns (c : Thread nD τ) M fullShare X)

/-- The body, at any grid point and on any six staging buffers and scratch buffer held at any contents, runs to its
    end and gives the seven buffers back. -/
theorem body_runs (c : Dev nD) (i : grid0.Coords)
    (M0 : Memref sig .tc .vmem S256x2048 .f32) (h0 : M0.IsWhole) (M1 : Memref sig .tc .vmem S2048x768 .f32) (h1 : M1.IsWhole)
    (M2 : Memref sig .tc .vmem S1x768 .f32) (h2 : M2.IsWhole) (M3 : Memref sig .tc .vmem S768x4096 .f32) (h3 : M3.IsWhole)
    (M4 : Memref sig .tc .vmem S1x4096 .f32) (h4 : M4.IsWhole) (M5 : Memref sig .tc .vmem S256x4096 .f32) (h5 : M5.IsWhole)
    (M6 : Memref sig .tc .vmem S256x768 .f32) (h6 : M6.IsWhole) (K : PUnit → sProp 𝕄) :
    iprop((held (F := F) c M0 ∗ held (F := F) c M1 ∗ held (F := F) c M2 ∗ held (F := F) c M3 ∗ held (F := F) c M4 ∗ held (F := F) c M5 ∗ held (F := F) c M6)
          ∗ (iprop(held (F := F) c M0 ∗ held (F := F) c M1 ∗ held (F := F) c M2 ∗ held (F := F) c M3 ∗ held (F := F) c M4 ∗ held (F := F) c M5 ∗ held (F := F) c M6) -∗ K ⟨⟩))
      ⊢ wp frame (wpE (defs₀ (F := F)) noVariants c none) Set.univ
          (cc0__mlp_head_kernel i M0 h0 M1 h1 M2 h2 M3 h3 M4 h4 M5 h5 M6 h6) K := by
  sl_unfold [cc0__mlp_head_kernel]
  unfold held owns
  iintro ⟨⟨⟨%X0, %f0, -, H0⟩, ⟨%X1, %f1, -, H1⟩, ⟨%X2, %f2, -, H2⟩, ⟨%X3, %f3, -, H3⟩, ⟨%X4, %f4, -, H4⟩, ⟨%X5, %f5, -, H5⟩,
    ⟨%X6, %f6, -, H6⟩⟩, Hk⟩
  sl_exec
  sl_step
  iapply Hk
  isplitl [H0]; · iexists _; iexists _; isplitr; swap; · iexact H0
                  ipureintro; rfl
  isplitl [H1]; · iexists _; iexists _; isplitr; swap; · iexact H1
                  ipureintro; rfl
  isplitl [H2]; · iexists _; iexists _; isplitr; swap; · iexact H2
                  ipureintro; rfl
  isplitl [H3]; · iexists _; iexists _; isplitr; swap; · iexact H3
                  ipureintro; rfl
  isplitl [H4]; · iexists _; iexists _; isplitr; swap; · iexact H4
                  ipureintro; rfl
  isplitl [H5]; · iexists _; iexists _; isplitr; swap; · iexact H5
                  ipureintro; rfl
  iexists _; iexists _; isplitr; swap; · iexact H6
  ipureintro; rfl

variable (m : (ℓ : Loc nD τ sig) → Buf (Elt F) ℓ) (ρ : Dev nD → PrngReg)

/-- The proof data of the one pipeline: the arrays at what the region finds, the scratch buffer and the generator
    register at anything, every window's contents after the body an arbitrary word (all six windows are forgotten). -/
def dats (_ : Fin 1) (c : Dev nD) : Dat τ (Elt F) Unit ℕ (UR sig nD τ) ℕ cfg0 c where
  A w := V m c (Pipeline.arrRef spec0 w)
  after _ _ _ := Classical.choice inferInstance
  Φ _ := Pipeline.ΦA spec0 c
  q _ := fullShare
  owed _ := 0

/-- The pipeline calls the kernel body at point `t` on the point's staging buffers. -/
theorem defs₀_row (t : Fin cfg0.N) : defs₀ (F := F) .tc cfg0.body (cfg0.bodyArgs t (cfg0.slots t)) = bodyAt0 t := by
  unfold defs₀; rw [Defs.onTc_tc]

/-- What the body is handed at a point and what it gives back: the scratch buffer and the generator register at
    anything, whatever the schedule owes (`O`), and the point's six staging buffers at anything. -/
abbrev atPoint (c : Dev nD) (t : Fin cfg0.N) (O : sProp 𝕄) : sProp 𝕄 :=
  iprop(Pipeline.ΦA spec0 c ∗ O ∗ held (F := F) c (st0_0 t) ∗ held (F := F) c (st0_1 t) ∗ held (F := F) c (st0_2 t)
    ∗ held (F := F) c (st0_3 t) ∗ held (F := F) c (st0_4 t) ∗ held (F := F) c (st0_5 t))

/-- The scratch buffer held as the body's operand is the scratch buffer at some contents. -/
theorem scratch_any (c : Dev nD) : held (F := F) c (Memref.whole cc0_scratch0)
    ⊢ iprop(∃ f : Buf (Elt F) ((c : Thread nD τ).loc cc0_scratch0), ((c : Thread nD τ).loc cc0_scratch0) ↦{fullShare} f) := by
  simp only [held, owns_whole_eq]
  iintro ⟨%X, %g, -, H⟩
  iexists g; iexact H

/-- The body at a point, from what it is handed to the same again. -/
theorem body_at_point (c : Dev nD) (t : Fin cfg0.N) (O : sProp 𝕄) :
    atPoint (F := F) c t O ⊢ wp frame (wpE (defs₀ (F := F)) noVariants c none) Set.univ (bodyAt0 t)
      fun _ => atPoint (F := F) c t O := by
  unfold atPoint Pipeline.ΦA
  rw [scopedRest0_eq]
  iintro ⟨⟨⟨%f, Hs⟩, Hp⟩, Ho, H0, H1, H2, H3, H4, H5⟩
  iapply (body_runs (F := F) c (grid0.coords t) (win0_0.stage (cfg0.slots t 0)) _ (win0_1.stage (cfg0.slots t 1)) _
    (win0_2.stage (cfg0.slots t 2)) _ (win0_3.stage (cfg0.slots t 3)) _ (win0_4.stage (cfg0.slots t 4)) _
    (win0_5.stage (cfg0.slots t 5)) _ (Memref.whole cc0_scratch0) _ _)
  isplitl [H0 H1 H2 H3 H4 H5 Hs]
  · isplitl [H0]; · iexact H0
    isplitl [H1]; · iexact H1
    isplitl [H2]; · iexact H2
    isplitl [H3]; · iexact H3
    isplitl [H4]; · iexact H4
    isplitl [H5]; · iexact H5
    iexists f
    rw [owns_whole_eq]
    iexists f; isplitr; · ipureintro; rfl
    iexact Hs
  iintro ⟨H0, H1, H2, H3, H4, H5, ⟨%X, Hs⟩⟩
  isplitl [Hs Hp]
  · isplitl [Hs]
    · iapply (scratch_any (F := F) c)
      iexists X; iexact Hs
    · iexact Hp
  isplitl [Ho]; · iexact Ho
  isplitl [H0]; · iexact H0
  isplitl [H1]; · iexact H1
  isplitl [H2]; · iexact H2
  isplitl [H3]; · iexact H3
  isplitl [H4]; · iexact H4
  iexact H5

/-- The library's body obligation with every window forgotten is `body_at_point`. -/
theorem body_obligation (c : Dev nD) :
    BodyObligationLoose (dats m 0 c) (defs₀ (F := F)) noVariants () Set.univ (fun _ => true) := fun t => by
  rw [bigSep_W0]
  exact triple_restated (body_at_point (F := F) c t ((dats m 0 c).owesAt () t.castSucc)) (congrArg _ (defs₀_row t).symm) .rfl fun _ => .rfl

/-- The buffers the lines after the region write: the result. -/
abbrev lateWrites : Finset (Ref sig .tc) := {main_v0}

/-- The one line after the region writes the result and nothing else. -/
theorem late_lines_write : ∀ ops ∈ ([hostOps1] : List (List (HloOp τ sig (Elt F)))), ∀ op ∈ ops,
    ∀ b : Ref sig .tc, Proc.devRef .tc b ∈ op.writes → b ∈ lateWrites := by
  intro ops hops op hop b hb
  simp only [List.mem_cons, List.mem_nil_iff, or_false] at hops
  subst hops
  simp only [hostOps1, List.mem_cons, List.mem_nil_iff, or_false] at hop
  subst hop
  rw [StableHlo.reshape_writes, Finset.mem_singleton] at hb
  by_contra hne
  exact StableHlo.devRef_ne_of_ne (fun h => hne (by rw [h]; exact Finset.mem_singleton_self _)) hb

/-- How the program is to end: the arguments unchanged and the counters at zero. -/
abbrev Ended (r : PUnit × MemSt nD τ sig (Elt F)) : Prop :=
  (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0

-- the launch theorem's implicit arguments are found by unifying its conclusion with this one
set_option backward.isDefEq.respectTransparency.types false in
/-- From any memory with zero counters the program runs to its end, its arguments unchanged and its counters at zero. -/
theorem run : θ_run defs (onTc (τ := τ) (main (F := F))) (s₀ m ρ) (Ended m) :=
  Pipeline.θ_run_frame_around_T_forget cfgs (dats m) 0 launch0 defs₀ noVariants (fun _ => true) lateWrites m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps) (hT := late_lines_write)
    (hmain := hmain m noVariants) (hA := fun _ _ => rfl) (hΦ := fun _ _ => rfl)
    (Q' := Ended m) (hQ' := fun r h => ⟨fun c =>
      ⟨((h.1 c).2 main_arg0 (Finset.mem_sdiff.mpr ⟨Pipeline.mem_restRefs_of main_arg0 (by decide) (by decide), by decide⟩)).trans (V_main_arg0 m c),
       (h.1.arr_in c 1 rfl).trans (V_main_arg1 m c),
       ((h.1 c).2 main_arg2 (Finset.mem_sdiff.mpr ⟨Pipeline.mem_restRefs_of main_arg2 (by decide) (by decide), by decide⟩)).trans (V_main_arg2 m c),
       (h.1.arr_in c 3 rfl).trans (V_main_arg3 m c),
       ((h.1 c).2 main_arg4 (Finset.mem_sdiff.mpr ⟨Pipeline.mem_restRefs_of main_arg4 (by decide) (by decide), by decide⟩)).trans (V_main_arg4 m c)⟩,
      h.2⟩)

/-- The first claim: the machine program runs to its end with its arguments unchanged and every counter at zero. -/
theorem quiescent : Cert.quiescent_Kernel := fun m ρ _ => run (F := Bits) m ρ

end Cert.Kernel.FrameProof

end
-- ==== Proof.Body.lean ====
/-
  The idealized kernel body, run once at an arbitrary grid point on six arbitrary staging buffers and the scratch
  buffer: what each of the seven buffers holds afterwards. Two cases, by whether the point's branch is taken; the
  body computes the activations in the first and reads them back in the other.
-/
module

public import proofs.«01_k».proof.Proof.Gen.KernelIdeal.Frame
public import proofs.«01_k».proof.Proof.Gen.KernelIdeal.Skeleton
public import Idealize.ShloMosaic.Lib.VecWindow

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- The kernel declares no variant. -/
abbrev 𝒱₀ : Variants := Variants.none

/-- The branch word at grid coordinate `i`. -/
abbrev first (i : grid0.Coords) : Prop :=
  Scalar.cmpi .ne (Scalar.extui (Scalar.cmpi .eq (BitVec.ofNat 32 (i 0).val) 0#32) : BitVec 32) 0#32 = 1#1

/-- The body at a point whose branch is taken: it computes the activations from the three operands' buffers into the
    scratch buffer, and leaves in the result's buffer the logits of those activations. All else is as it was. -/
theorem body_first (c : Dev nD) (i : grid0.Coords) (hc : first i)
    (M0 : Memref sig .tc .vmem S256x2048 .f32) (h0 : M0.IsWhole) (M1 : Memref sig .tc .vmem S2048x768 .f32) (h1 : M1.IsWhole)
    (M2 : Memref sig .tc .vmem S1x768 .f32) (h2 : M2.IsWhole) (M3 : Memref sig .tc .vmem S768x4096 .f32) (h3 : M3.IsWhole)
    (M4 : Memref sig .tc .vmem S1x4096 .f32) (h4 : M4.IsWhole) (M5 : Memref sig .tc .vmem S256x4096 .f32) (h5 : M5.IsWhole)
    (M6 : Memref sig .tc .vmem S256x768 .f32) (h6 : M6.IsWhole)
    (X0 : S256x2048.Idx → Elt F .f32) (X1 : S2048x768.Idx → Elt F .f32) (X2 : S1x768.Idx → Elt F .f32)
    (X3 : S768x4096.Idx → Elt F .f32) (X4 : S1x4096.Idx → Elt F .f32) (X5 : S256x4096.Idx → Elt F .f32) (X6 : S256x768.Idx → Elt F .f32)
    (K : PUnit → sProp 𝕄) :
    iprop((owns (c : Thread nD τ) M0 fullShare X0 ∗ owns (c : Thread nD τ) M1 fullShare X1 ∗ owns (c : Thread nD τ) M2 fullShare X2
            ∗ owns (c : Thread nD τ) M3 fullShare X3 ∗ owns (c : Thread nD τ) M4 fullShare X4 ∗ owns (c : Thread nD τ) M5 fullShare X5
            ∗ owns (c : Thread nD τ) M6 fullShare X6)
          ∗ (iprop(owns (c : Thread nD τ) M0 fullShare X0 ∗ owns (c : Thread nD τ) M1 fullShare X1 ∗ owns (c : Thread nD τ) M2 fullShare X2
            ∗ owns (c : Thread nD τ) M3 fullShare X3 ∗ owns (c : Thread nD τ) M4 fullShare X4
            ∗ owns (c : Thread nD τ) M5 fullShare (k0_pay2 (k0_pay1 X0 X1 X2) X3 X4)
            ∗ owns (c : Thread nD τ) M6 fullShare (k0_pay1 X0 X1 X2)) -∗ K ⟨⟩))
      ⊢ wp frame (wpE (defs₀ (F := F)) 𝒱₀ c none) Set.univ
          (cc0__mlp_head_kernel i M0 h0 M1 h1 M2 h2 M3 h3 M4 h4 M5 h5 M6 h6) K := by
  sl_unfold [cc0__mlp_head_kernel]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, Hk⟩
  sl_exec (disch := sl_exact hc)
  sl_step
  sl_unfold_words
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists _; isplitr; swap; · iexact H5
    ipureintro
    refine (View.read_writes_full _ _ _ _ _).trans ?_
    rw [View.readCov_cons_toLoadRect, View.readAt_full, View.readAt_full, View.readAt_full, View.readAt_full, View.readAt_full,
      hf0, hf1, hf2, hf3, hf4]
  · iexists _; isplitr; swap; · iexact H6
    ipureintro
    refine (View.read_writes_full _ _ _ _ _).trans ?_
    rw [View.readAt_full, View.readAt_full, View.readAt_full, hf0, hf1, hf2]

/-- The body at a point whose branch is not taken: it leaves in the result's buffer the logits of the activations it
    finds in the scratch buffer. All else, the scratch buffer included, is as it was. -/
theorem body_later (c : Dev nD) (i : grid0.Coords) (hc : ¬ first i)
    (M0 : Memref sig .tc .vmem S256x2048 .f32) (h0 : M0.IsWhole) (M1 : Memref sig .tc .vmem S2048x768 .f32) (h1 : M1.IsWhole)
    (M2 : Memref sig .tc .vmem S1x768 .f32) (h2 : M2.IsWhole) (M3 : Memref sig .tc .vmem S768x4096 .f32) (h3 : M3.IsWhole)
    (M4 : Memref sig .tc .vmem S1x4096 .f32) (h4 : M4.IsWhole) (M5 : Memref sig .tc .vmem S256x4096 .f32) (h5 : M5.IsWhole)
    (M6 : Memref sig .tc .vmem S256x768 .f32) (h6 : M6.IsWhole)
    (X0 : S256x2048.Idx → Elt F .f32) (X1 : S2048x768.Idx → Elt F .f32) (X2 : S1x768.Idx → Elt F .f32)
    (X3 : S768x4096.Idx → Elt F .f32) (X4 : S1x4096.Idx → Elt F .f32) (X5 : S256x4096.Idx → Elt F .f32) (X6 : S256x768.Idx → Elt F .f32)
    (K : PUnit → sProp 𝕄) :
    iprop((owns (c : Thread nD τ) M0 fullShare X0 ∗ owns (c : Thread nD τ) M1 fullShare X1 ∗ owns (c : Thread nD τ) M2 fullShare X2
            ∗ owns (c : Thread nD τ) M3 fullShare X3 ∗ owns (c : Thread nD τ) M4 fullShare X4 ∗ owns (c : Thread nD τ) M5 fullShare X5
            ∗ owns (c : Thread nD τ) M6 fullShare X6)
          ∗ (iprop(owns (c : Thread nD τ) M0 fullShare X0 ∗ owns (c : Thread nD τ) M1 fullShare X1 ∗ owns (c : Thread nD τ) M2 fullShare X2
            ∗ owns (c : Thread nD τ) M3 fullShare X3 ∗ owns (c : Thread nD τ) M4 fullShare X4
            ∗ owns (c : Thread nD τ) M5 fullShare (k0_pay2 X6 X3 X4)
            ∗ owns (c : Thread nD τ) M6 fullShare X6) -∗ K ⟨⟩))
      ⊢ wp frame (wpE (defs₀ (F := F)) 𝒱₀ c none) Set.univ
          (cc0__mlp_head_kernel i M0 h0 M1 h1 M2 h2 M3 h3 M4 h4 M5 h5 M6 h6) K := by
  sl_unfold [cc0__mlp_head_kernel]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, Hk⟩
  sl_exec (disch := sl_exact hc)
  sl_step
  sl_unfold_words
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists _; isplitr; swap; · iexact H5
    ipureintro
    refine (View.read_writes_full _ _ _ _ _).trans ?_
    rw [View.readAt_full, View.readAt_full, View.readAt_full, hf6, hf3, hf4]
  · iexists f6; isplitr; · ipureintro; exact hf6
    iexact H6

end Cert.KernelIdeal.Body

end
-- ==== Proof.Payload.lean ====
/-
  The two values the idealized kernel body computes, read at an element over the extended reals: the activations (a
  row of the first product plus its bias, through the exact GELU) and the logits (a row of the activations against a
  column of the second weights, plus its bias). A logit depends on one column of the second weights and one entry of
  the second bias only, which is why the columns of a block that lie past the array's end do no harm.
-/
module

public import proofs.«01_k».proof.Proof.Gen.KernelIdeal.Skeleton
public import Idealize.ShloMosaic.Lib.Pointwise
public import Idealize.ShloMosaic.Lib.IdealHost
public import Idealize.ShloMosaic.PureOps.IdealRules

@[expose] public section

noncomputable section

namespace Cert.Math

open Cert.KernelIdeal Cert.KernelIdeal.Gen
open Idealize.ShloMosaic
open scoped BigOperators

/-- The exact GELU of an extended real, in the arrangement the kernel computes: half of it times one plus the error
    function of it over the root of two. -/
def gelu (x : EReal) : EReal :=
  (Ideal.ofBits .f32 0x3F000000#32 * x) * (1 + Ideal.erf (x * ((Real.sqrt (1 / 2) : ℝ) : EReal)))

/-- The result both programs are shown to compute, entry by entry: the tokens through the first product, the first
    bias, the GELU, the second product and the second bias. -/
def result (T : (⟨3, ![32, 8, 2048]⟩ : Shape).Idx → EReal) (A : (⟨2, ![2048, 768]⟩ : Shape).Idx → EReal) (a : (⟨1, ![768]⟩ : Shape).Idx → EReal)
    (B : (⟨2, ![768, 100000]⟩ : Shape).Idx → EReal) (b : (⟨1, ![100000]⟩ : Shape).Idx → EReal) : (⟨3, ![32, 8, 100000]⟩ : Shape).Idx → EReal :=
  fun i => (∑ j : Fin 768, gelu ((∑ k : Fin 2048, T (ix3 (i 0) (i 1) k) * A (ix2 k j)) + a (ix1 j)) * B (ix2 j (i 2))) + b (ix1 (i 2))

/-- The named constant is the root of a half. -/
theorem sqrt_half_value : Named.named (F := Ideal) κ "sqrt_half" (φ := .f32) 0x3F3504F3#32 = ((Real.sqrt (1 / 2) : ℝ) : EReal) :=
  IdealRules.named_const.ideal_named_scalar κ "sqrt_half" (φ := .f32) _ _ rfl

/-- The kernel's activation at row `r` and hidden unit `j`: the GELU of the row's product with the unit's weights plus
    the unit's bias. -/
theorem activation_apply (X : Vec Ideal S256x2048 .f32) (A : Vec Ideal S2048x768 .f32) (B : Vec Ideal S1x768 .f32)
    (r : Fin 256) (j : Fin 768) :
    k0_pay1 (F := Ideal) X A B (ix2 r j) = gelu ((∑ k : Fin 2048, X (ix2 r k) * A (ix2 k j)) + B (ix2 0 j)) := by
  pointwise [k0_pay1]
  rw [sqrt_half_value]
  rfl

/-- The kernel's logit at row `r` and column `v` of a block: the row of activations times the column of weights plus
    the column's bias. -/
theorem logit_apply (X : Vec Ideal S256x768 .f32) (A : Vec Ideal S768x4096 .f32) (B : Vec Ideal S1x4096 .f32)
    (r : Fin 256) (v : Fin 4096) :
    k0_pay2 (F := Ideal) X A B (ix2 r v) = (∑ k : Fin 768, X (ix2 r k) * A (ix2 k v)) + B (ix2 0 v) := by
  pointwise [k0_pay2]

end Cert.Math

end
-- ==== Proof.KernelRun.lean ====
/-
  The idealized kernel over the extended reals, run through its grid. The first point computes the activations of all
  256 rows into the scratch buffer, where every later point finds them; each point leaves in the result's buffer the
  logits of those activations against its block of columns. The last block overhangs the arrays: past their end the
  staged weights hold words nothing names, and a logit reads one column only, so the columns inside the array do not
  depend on them.
-/
module

public import proofs.«01_k».proof.Defs
public import proofs.«01_k».proof.Proof.Body
public import proofs.«01_k».proof.Proof.Payload
public import Idealize.ShloMosaic.Lib.Pipeline.ValueKit

@[expose] public section

noncomputable section

namespace Cert.KernelIdeal.Run

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The proof data -/

/-- The activations: what the first point leaves in the scratch buffer. -/
def acts (c : Dev nD) : Vec Ideal S256x768 .f32 := k0_pay1 (F := Ideal) (V m c main_call0_v0) (V m c main_arg1) (V m c main_call0_v1)

/-- The second weights' block at a point, filled out past the array's end by `d`. -/
def weights (c : Dev nD) (t : Fin cfg0.N) (d : S768x4096.Idx → Elt Ideal .f32) : S768x4096.Idx → Elt Ideal .f32 :=
  win0_3.fill (grid0.coords t) d (iblk m c 3 t)

/-- The second bias's block at a point, filled out past the array's end by `d`. -/
def biases (c : Dev nD) (t : Fin cfg0.N) (d : S1x4096.Idx → Elt Ideal .f32) : S1x4096.Idx → Elt Ideal .f32 :=
  win0_4.fill (grid0.coords t) d (iblk m c 4 t)

/-- The word that fills a block out past the array's end, where nothing reads it. -/
abbrev filler {s : Shape} : s.Idx → Elt Ideal .f32 := fun _ => (0 : EReal)

/-- What the scratch buffer and the generator register hold before a point: before the first, anything; before a
    later one, the activations. -/
def carried (c : Dev nD) (n : ℕ) : sProp 𝕄 :=
  if n = 0 then Pipeline.ΦA spec0 c
  else iprop(owns (c : Thread nD τ) (Memref.whole cc0_scratch0) fullShare (acts m c) ∗ ∃ r, prngReg c r)

/-- The proof data of the one pipeline. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => weights m c t filler
    | ⟨4, _⟩ => biases m c t filler
    | ⟨5, _⟩ => k0_pay2 (F := Ideal) (acts m c) (weights m c t filler) (biases m c t filler)
  Φ t := carried m c t.val
  q _ := fullShare
  owed _ := 0

/-! ## What the body finds -/

theorem before_3 (c : Dev nD) (t : Fin cfg0.N) (d) : (dats m 0 c).before (3 : Fin 6) t d = weights m c t d := by
  unfold Dat.before; rw [if_pos (fetch0_3 t)]; rfl

theorem before_4 (c : Dev nD) (t : Fin cfg0.N) (d) : (dats m 0 c).before (4 : Fin 6) t d = biases m c t d := by
  unfold Dat.before; rw [if_pos (fetch0_4 t)]; rfl

/-- The three operands of the first product are staged whole: their block at any point is the array. -/
theorem iblk_0 (c : Dev nD) (t : Fin cfg0.N) : iblk m c 0 t = V m c main_call0_v0 := by
  funext y
  blk_simp [iblk]
  refine congrArg _ ?_
  blk_ext [(by decide +kernel : ∀ t : Fin grid0.N, win0_0.index t = ![0, 0])]

theorem iblk_1 (c : Dev nD) (t : Fin cfg0.N) : iblk m c 1 t = V m c main_arg1 := by
  funext y
  blk_simp [iblk]
  refine congrArg _ ?_
  blk_ext [(by decide +kernel : ∀ t : Fin grid0.N, win0_1.index t = ![0, 0])]

theorem iblk_2 (c : Dev nD) (t : Fin cfg0.N) : iblk m c 2 t = V m c main_call0_v1 := by
  funext y
  blk_simp [iblk]
  refine congrArg _ ?_
  blk_ext [(by decide +kernel : ∀ t : Fin grid0.N, win0_2.index t = ![0, 0])]

/-- The body's branch is taken at the first point and at no other. -/
theorem first_iff : ∀ t : Fin cfg0.N, first (grid0.coords t) ↔ t.val = 0 := by
  decide +kernel

/-! ## The columns inside the array do not depend on what lies past its end -/

/-- The three windows over the columns cut their blocks alike, and cut no other axis. -/
theorem sizes : ∀ t : Fin grid0.N, (win0_3.xsize (grid0.coords t) 0 = 768 ∧ win0_3.xsize (grid0.coords t) 1 = win0_5.xsize (grid0.coords t) 1)
    ∧ win0_4.xsize (grid0.coords t) 0 = 1 ∧ win0_4.xsize (grid0.coords t) 1 = win0_5.xsize (grid0.coords t) 1 := by
  decide +kernel

/-- A filled block at a place inside the array does not depend on the filler. -/
theorem fill_inside {G : Pipeline.Grid} (w : Window sig G) {α : Type} (i : G.Coords) (d d' : w.block.Idx → α)
    (g : (w.xblock i).Idx → α) (j : w.block.Idx) (h : ∀ a, (j a).val < w.xsize i a) : w.fill i d g j = w.fill i d' g j := by
  unfold Window.fill
  rw [dif_pos ((w.moved_iff i j).mpr h), dif_pos ((w.moved_iff i j).mpr h)]

theorem weights_inside (c : Dev nD) (t : Fin cfg0.N) (d d' : S768x4096.Idx → Elt Ideal .f32) (k : Fin 768) (v : Fin 4096)
    (hv : v.val < win0_5.xsize (grid0.coords t) 1) : weights m c t d (ix2 k v) = weights m c t d' (ix2 k v) :=
  fill_inside win0_3 _ d d' _ (ix2 k v) fun a => by
    match a with
    | ⟨0, _⟩ => exact k.isLt.trans_eq (sizes t).1.1.symm
    | ⟨1, _⟩ => exact hv.trans_eq (sizes t).1.2.symm

theorem biases_inside (c : Dev nD) (t : Fin cfg0.N) (d d' : S1x4096.Idx → Elt Ideal .f32) (v : Fin 4096)
    (hv : v.val < win0_5.xsize (grid0.coords t) 1) : biases m c t d (ix2 0 v) = biases m c t d' (ix2 0 v) :=
  fill_inside win0_4 _ d d' _ (ix2 0 v) fun a => by
    match a with
    | ⟨0, _⟩ => exact Nat.zero_lt_one.trans_eq (sizes t).2.1.symm
    | ⟨1, _⟩ => exact hv.trans_eq (sizes t).2.2.symm

/-- The logits on the columns inside the array, whatever filled the blocks out. -/
theorem logits_inside (c : Dev nD) (t : Fin cfg0.N) (X : Vec Ideal S256x768 .f32) (d3 d3' : S768x4096.Idx → Elt Ideal .f32)
    (d4 d4' : S1x4096.Idx → Elt Ideal .f32) :
    win0_5.cut (grid0.coords t) (k0_pay2 (F := Ideal) X (weights m c t d3) (biases m c t d4))
      = win0_5.cut (grid0.coords t) (k0_pay2 (F := Ideal) X (weights m c t d3') (biases m c t d4')) := by
  funext y
  have hv : (win0_5.xinj (grid0.coords t) y 1).val < win0_5.xsize (grid0.coords t) 1 := (y 1).isLt
  show k0_pay2 (F := Ideal) X _ _ (win0_5.xinj (grid0.coords t) y) = k0_pay2 (F := Ideal) X _ _ (win0_5.xinj (grid0.coords t) y)
  generalize win0_5.xinj (grid0.coords t) y = j at hv ⊢
  obtain ⟨r, v, rfl⟩ : ∃ r v, j = ix2 r v := ⟨j 0, j 1, eq_ix2 j⟩
  rw [Cert.Math.logit_apply, Cert.Math.logit_apply, biases_inside m c t d4 d4' v hv]
  refine congrArg (· + _) (Finset.sum_congr rfl fun k _ => ?_)
  rw [weights_inside m c t d3 d3' k v hv]

/-! ## The body's obligation -/

/-- The pipeline calls the kernel body at point `t` on the point's staging buffers. -/
theorem defs₀_row (t : Fin cfg0.N) : defs₀ (F := Ideal) .tc cfg0.body (cfg0.bodyArgs t (cfg0.slots t)) = bodyAt0 t := by
  unfold defs₀; rw [Defs.onTc_tc]

/-- What the body is handed at a point: what is carried, whatever the schedule owes (`O`), and the six staging buffers
    as the pipeline fills them. -/
abbrev handed (c : Dev nD) (t : Fin cfg0.N) (O : sProp 𝕄) : sProp 𝕄 :=
  iprop(carried m c t.val ∗ O
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What the body gives back: what is carried to the next point, what the schedule owes, and the six staging buffers,
    the last three stated inside the array only. -/
abbrev given (c : Dev nD) (t : Fin cfg0.N) (O : sProp 𝕄) : sProp 𝕄 :=
  iprop(carried m c (t.val + 1) ∗ O
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ (∃ d, owns (c : Thread nD τ) (st0_3 t) fullShare
        (win0_3.fill (grid0.coords t) d (win0_3.cut (grid0.coords t) (weights m c t filler))))
    ∗ (∃ d, owns (c : Thread nD τ) (st0_4 t) fullShare
        (win0_4.fill (grid0.coords t) d (win0_4.cut (grid0.coords t) (biases m c t filler))))
    ∗ (∃ d, owns (c : Thread nD τ) (st0_5 t) fullShare
        (win0_5.fill (grid0.coords t) d (win0_5.cut (grid0.coords t)
          (k0_pay2 (F := Ideal) (acts m c) (weights m c t filler) (biases m c t filler))))))

/-- The staged weights, whatever filled them out, are what the obligation asks inside the array. -/
theorem restate_3 (c : Dev nD) (t : Fin cfg0.N) (d) : owns (c : Thread nD τ) (st0_3 t) fullShare (weights m c t d)
    ⊢ (iprop(∃ d, owns (c : Thread nD τ) (st0_3 t) fullShare
        (win0_3.fill (grid0.coords t) d (win0_3.cut (grid0.coords t) (weights m c t filler)))) : sProp 𝕄) := by
  rw [show win0_3.cut (grid0.coords t) (weights m c t filler) = iblk m c 3 t from win0_3.cut_fill _ _ _]
  iintro H; iexists d; iexact H

/-- The staged biases likewise. -/
theorem restate_4 (c : Dev nD) (t : Fin cfg0.N) (d) : owns (c : Thread nD τ) (st0_4 t) fullShare (biases m c t d)
    ⊢ (iprop(∃ d, owns (c : Thread nD τ) (st0_4 t) fullShare
        (win0_4.fill (grid0.coords t) d (win0_4.cut (grid0.coords t) (biases m c t filler)))) : sProp 𝕄) := by
  rw [show win0_4.cut (grid0.coords t) (biases m c t filler) = iblk m c 4 t from win0_4.cut_fill _ _ _]
  iintro H; iexists d; iexact H

/-- The logits likewise: inside the array they do not depend on the fillers. -/
theorem restate_5 (c : Dev nD) (t : Fin cfg0.N) (d3 d4) : owns (c : Thread nD τ) (st0_5 t) fullShare
      (k0_pay2 (F := Ideal) (acts m c) (weights m c t d3) (biases m c t d4))
    ⊢ (iprop(∃ d, owns (c : Thread nD τ) (st0_5 t) fullShare
        (win0_5.fill (grid0.coords t) d (win0_5.cut (grid0.coords t)
          (k0_pay2 (F := Ideal) (acts m c) (weights m c t filler) (biases m c t filler))))) : sProp 𝕄) := by
  iintro H
  iexists k0_pay2 (F := Ideal) (acts m c) (weights m c t d3) (biases m c t d4)
  rw [win0_5.fill_congr_cut (grid0.coords t) (logits_inside m c t (acts m c) d3 filler d4 filler)]
  iexact H

/-- What is carried before the first point is the scratch buffer and the register at anything. -/
theorem carried_first (c : Dev nD) : carried m c 0
    ⊢ (iprop((∃ X, owns (c : Thread nD τ) (Memref.whole cc0_scratch0) fullShare X) ∗ ∃ r, prngReg c r) : sProp 𝕄) := by
  unfold carried Pipeline.ΦA
  rw [if_pos rfl, scopedRest0_eq]
  simp only [owns_whole_eq]
  iintro ⟨⟨%f, Hs⟩, Hp⟩
  isplitl [Hs]
  · iexists f; iexists f; isplitr; · ipureintro; rfl
    iexact Hs
  · iexact Hp

/-- What is carried past a point is the activations in the scratch buffer, and the register at anything. -/
theorem carried_later (c : Dev nD) (n : ℕ) (hn : n ≠ 0) : carried m c n
    = iprop(owns (c : Thread nD τ) (Memref.whole cc0_scratch0) fullShare (acts m c) ∗ ∃ r, prngReg c r) := if_neg hn

/-- What is carried, at any point, holds the scratch buffer and the register at something. -/
theorem carried_any (c : Dev nD) (n : ℕ) : carried m c n ⊢ Pipeline.ΦA spec0 c := by
  by_cases hn : n = 0
  · unfold carried; rw [if_pos hn]
  · rw [carried_later m c n hn]
    unfold Pipeline.ΦA
    rw [scopedRest0_eq, owns_whole_eq]
    iintro ⟨⟨%f, -, Hs⟩, Hp⟩
    isplitl [Hs]
    · iexists f; iexact Hs
    · iexact Hp

/-- The body at a point. -/
theorem body_at_point (c : Dev nD) (t : Fin cfg0.N) (O : sProp 𝕄) :
    handed m c t O ⊢ wp frame (wpE (defs₀ (F := Ideal)) 𝒱₀ c none) Set.univ (bodyAt0 t) fun _ => given m c t O := by
  unfold handed given
  simp only [before0_0_of m (dats m 0 c) rfl (fun _ => rfl), before0_1_of m (dats m 0 c) rfl (fun _ => rfl),
    before0_2_of m (dats m 0 c) rfl (fun _ => rfl), before_3, before_4]
  by_cases ht : t.val = 0
  · rw [ht]
    refine (sep_mono (carried_first m c) .rfl).trans ?_
    iintro ⟨⟨⟨%X, Hs⟩, Hp⟩, Ho, ⟨%d0, H0⟩, ⟨%d1, H1⟩, ⟨%d2, H2⟩, ⟨%d3, H3⟩, ⟨%d4, H4⟩, ⟨%d5, H5⟩⟩
    iapply (body_first (F := Ideal) c (grid0.coords t) ((first_iff t).mpr ht) (win0_0.stage (cfg0.slots t 0)) _
      (win0_1.stage (cfg0.slots t 1)) _ (win0_2.stage (cfg0.slots t 2)) _ (win0_3.stage (cfg0.slots t 3)) _
      (win0_4.stage (cfg0.slots t 4)) _ (win0_5.stage (cfg0.slots t 5)) _ (Memref.whole cc0_scratch0) _
      (iblk m c 0 t) (iblk m c 1 t) (iblk m c 2 t) (weights m c t d3) (biases m c t d4) _ X _)
    isplitl [H0 H1 H2 H3 H4 H5 Hs]
    · isplitl [H0]; · iexact H0
      isplitl [H1]; · iexact H1
      isplitl [H2]; · iexact H2
      isplitl [H3]; · iexact H3
      isplitl [H4]; · iexact H4
      isplitl [H5]; · iexact H5
      iexact Hs
    rw [show k0_pay1 (F := Ideal) (iblk m c 0 t) (iblk m c 1 t) (iblk m c 2 t) = acts m c by
      rw [iblk_0, iblk_1, iblk_2]; rfl, carried_later m c (0 + 1) (by omega)]
    iintro ⟨H0, H1, H2, H3, H4, H5, Hs⟩
    isplitl [Hs Hp]
    · isplitl [Hs]; · iexact Hs
      iexact Hp
    isplitl [Ho]; · iexact Ho
    isplitl [H0]; · iexact H0
    isplitl [H1]; · iexact H1
    isplitl [H2]; · iexact H2
    isplitl [H3]; · iapply (restate_3 m c t d3); iexact H3
    isplitl [H4]; · iapply (restate_4 m c t d4); iexact H4
    iapply (restate_5 m c t d3 d4); iexact H5
  · rw [carried_later m c t.val ht, carried_later m c (t.val + 1) (by omega)]
    iintro ⟨⟨Hs, Hp⟩, Ho, ⟨%d0, H0⟩, ⟨%d1, H1⟩, ⟨%d2, H2⟩, ⟨%d3, H3⟩, ⟨%d4, H4⟩, ⟨%d5, H5⟩⟩
    iapply (body_later (F := Ideal) c (grid0.coords t) (fun h => ht ((first_iff t).mp h)) (win0_0.stage (cfg0.slots t 0)) _
      (win0_1.stage (cfg0.slots t 1)) _ (win0_2.stage (cfg0.slots t 2)) _ (win0_3.stage (cfg0.slots t 3)) _
      (win0_4.stage (cfg0.slots t 4)) _ (win0_5.stage (cfg0.slots t 5)) _ (Memref.whole cc0_scratch0) _
      (iblk m c 0 t) (iblk m c 1 t) (iblk m c 2 t) (weights m c t d3) (biases m c t d4) _ (acts m c) _)
    isplitl [H0 H1 H2 H3 H4 H5 Hs]
    · isplitl [H0]; · iexact H0
      isplitl [H1]; · iexact H1
      isplitl [H2]; · iexact H2
      isplitl [H3]; · iexact H3
      isplitl [H4]; · iexact H4
      isplitl [H5]; · iexact H5
      iexact Hs
    iintro ⟨H0, H1, H2, H3, H4, H5, Hs⟩
    isplitl [Hs Hp]
    · isplitl [Hs]; · iexact Hs
      iexact Hp
    isplitl [Ho]; · iexact Ho
    isplitl [H0]; · iexact H0
    isplitl [H1]; · iexact H1
    isplitl [H2]; · iexact H2
    isplitl [H3]; · iapply (restate_3 m c t d3); iexact H3
    isplitl [H4]; · iapply (restate_4 m c t d4); iexact H4
    iapply (restate_5 m c t d3 d4); iexact H5

/-- The library's body obligation is `body_at_point`. -/
theorem body_obligation (c : Dev nD) : BodyObligationLoose (dats m 0 c) (defs₀ (F := Ideal)) 𝒱₀ () Set.univ := fun t => by
  rw [bigSep_W0, bigSep_W0]
  exact triple_restated (body_at_point m c t ((dats m 0 c).owesAt () t.castSucc)) (congrArg _ (defs₀_row t).symm) .rfl fun _ => .rfl

end Cert.KernelIdeal.Run

end
-- ==== Proof.KernelValue.lean ====
/-
  The idealized kernel's run as a whole, and its result entry by entry: the blocks of columns put together are the
  logits of all 256 rows, and the rows are the token positions in order.
-/
module

public import proofs.«01_k».proof.Proof.KernelRun

@[expose] public section

noncomputable section

namespace Cert.KernelIdeal.Run

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.Math (gelu result activation_apply logit_apply)

variable (m : (ℓ : Loc nD τ sig) → Buf (Elt Ideal) ℓ) (ρ : Dev nD → PrngReg)

/-! ## The result array of the pipeline -/

/-- The logits of the 256 rows against all the columns. -/
def logits (c : Dev nD) : S256x100000.Idx → EReal := fun i =>
  (∑ k : Fin 768, acts m c (ix2 (i 0) k) * (V m c main_arg3 : S768x100000.Idx → EReal) (ix2 k (i 1)))
    + (V m c main_call0_v2 : S1x100000.Idx → EReal) (ix2 0 (i 1))

/-- The three windows over the columns start their blocks at the same column, and at row zero. -/
theorem starts : ∀ t : Fin grid0.N, (win0_3.index t 0 = 0 ∧ win0_3.index t 1 = t.val) ∧ (win0_4.index t 0 = 0 ∧ win0_4.index t 1 = t.val)
    ∧ win0_5.index t 0 = 0 ∧ win0_5.index t 1 = t.val := by
  decide +kernel

/-- A staged weight inside the array is the array's, at the block's columns. -/
theorem weights_apply (c : Dev nD) (t : Fin cfg0.N) (d : S768x4096.Idx → Elt Ideal .f32) (k : Fin 768) (v : Fin 4096) (u : Fin 100000)
    (hv : v.val < win0_5.xsize (grid0.coords t) 1) (hu : u.val = t.val * 4096 + v.val) :
    weights m c t d (ix2 k v) = V m c main_arg3 (ix2 k u) := by
  unfold weights Window.fill
  rw [dif_pos ((win0_3.moved_iff _ _).mpr fun a => by
    match a with
    | ⟨0, _⟩ => exact k.isLt.trans_eq (sizes t).1.1.symm
    | ⟨1, _⟩ => exact hv.trans_eq (sizes t).1.2.symm)]
  obtain ⟨⟨e0, e1⟩, -⟩ := starts t
  blk_simp [iblk]
  refine congrArg _ (funext fun a => Fin.ext ?_)
  match a with
  | ⟨0, _⟩ => blk_simp [e0]
  | ⟨1, _⟩ => blk_simp [e1]; exact hu.symm

/-- A staged bias likewise. -/
theorem biases_apply (c : Dev nD) (t : Fin cfg0.N) (d : S1x4096.Idx → Elt Ideal .f32) (v : Fin 4096) (u : Fin 100000)
    (hv : v.val < win0_5.xsize (grid0.coords t) 1) (hu : u.val = t.val * 4096 + v.val) :
    biases m c t d (ix2 0 v) = V m c main_call0_v2 (ix2 0 u) := by
  unfold biases Window.fill
  rw [dif_pos ((win0_4.moved_iff _ _).mpr fun a => by
    match a with
    | ⟨0, _⟩ => exact Nat.zero_lt_one.trans_eq (sizes t).2.1.symm
    | ⟨1, _⟩ => exact hv.trans_eq (sizes t).2.2.symm)]
  obtain ⟨-, ⟨e0, e1⟩, -⟩ := starts t
  blk_simp [iblk]
  refine congrArg _ (funext fun a => Fin.ext ?_)
  match a with
  | ⟨0, _⟩ => blk_simp [e0]
  | ⟨1, _⟩ => blk_simp [e1]; exact hu.symm

/-- The pipeline's result array ends holding the logits. -/
theorem final_logits (c : Dev nD) : (dats m 0 c).arrAt 5 cfg0.N = logits m c := by
  refine (dats m 0 c).arrAt_eq_of_covers 5 (logits m c) (by decide +kernel) fun t hf y => ?_
  show k0_pay2 (F := Ideal) (acts m c) (weights m c t filler) (biases m c t filler) (win0_5.xinj (grid0.coords t) y)
    = logits m c ((win0_5.blk t).view.emb y)
  obtain ⟨-, -, e0, e1⟩ := starts t
  have hv : (win0_5.xinj (grid0.coords t) y 1).val < win0_5.xsize (grid0.coords t) 1 := (y 1).isLt
  have hr : win0_5.xinj (grid0.coords t) y 0 = (win0_5.blk t).view.emb y 0 := Fin.ext (by blk_simp [e0])
  have hu : ((win0_5.blk t).view.emb y 1).val = t.val * 4096 + (win0_5.xinj (grid0.coords t) y 1).val := by
    blk_simp [e1]
  generalize win0_5.xinj (grid0.coords t) y = j at *
  generalize (win0_5.blk t).view.emb y = i at *
  obtain ⟨r, v, rfl⟩ : ∃ (r : Fin 256) (v : Fin 4096), j = ix2 r v := ⟨j 0, j 1, eq_ix2 j⟩
  obtain ⟨r', u, rfl⟩ : ∃ (r' : Fin 256) (u : Fin 100000), i = ix2 r' u := ⟨i 0, i 1, eq_ix2 i⟩
  obtain rfl : r = r' := hr
  rw [logit_apply, biases_apply m c t filler v u hv hu]
  refine congrArg (· + _) (Finset.sum_congr rfl fun k _ => ?_)
  rw [weights_apply m c t filler k v u hv hu]
  rfl

/-! ## The host lines -/

theorem V_main_call0_v0 (c : Dev nD) : V m c main_call0_v0 = shapeCast S256x2048 (m ((c : Thread nD τ).loc main_arg0)) shapeCasts_S32x8x2048_S256x2048 := by
  unfold V V0 hostOps0
  simp only [List.flatten_cons, List.flatten_nil, List.append_nil]
  open StableHlo in after_results
  rfl

theorem V_main_call0_v1 (c : Dev nD) : V m c main_call0_v1 = shapeCast S1x768 (m ((c : Thread nD τ).loc main_arg2)) shapeCasts_S768_S1x768 := by
  unfold V V0 hostOps0
  simp only [List.flatten_cons, List.flatten_nil, List.append_nil]
  open StableHlo in after_results
  rfl

theorem V_main_call0_v2 (c : Dev nD) : V m c main_call0_v2 = shapeCast S1x100000 (m ((c : Thread nD τ).loc main_arg4)) shapeCasts_S100000_S1x100000 := by
  unfold V V0 hostOps0
  simp only [List.flatten_cons, List.flatten_nil, List.append_nil]
  open StableHlo in after_results
  rfl

/-- The program's result is the pipeline's, its rows split into token positions. -/
theorem tail_main_v0 (c : Dev nD) : Pipeline.afterTail₀ cfgs (dats m) 0 (V0 m) [hostOps1] c main_v0
    = shapeCast S32x8x100000 (logits m c) shapeCasts_S256x100000_S32x8x100000 := by
  rw [← final_logits]
  unfold Pipeline.afterTail₀ hostOps1
  simp only [List.flatten_cons, List.flatten_nil, List.append_nil]
  open StableHlo in after_results
  rw [show Pipeline.withArrays (cfgs 0).spec c (V0 m c) (fun w => (dats m 0 c).arrAt w (cfgs 0).N) (Proc.devRef .tc main_call0_v3)
    = (dats m 0 c).arrAt 5 cfg0.N from Pipeline.withArrays_arr _ launch0.win.arr_inj c _ _ 5]
  rfl

/-- Row `p * 8 + q` of the flattened tokens is token position `(p, q)`. -/
theorem flatten_apply (X : S32x8x2048.Idx → EReal) (p : Fin 32) (q : Fin 8) (r : Fin 256) (hr : r.val = p.val * 8 + q.val) (k : Fin 2048) :
    shapeCast S256x2048 X shapeCasts_S32x8x2048_S256x2048 (ix2 r k) = X (ix3 p q k) := by
  pointwise
  have hp : (⟨r.val / 8, by omega⟩ : Fin 32) = p := Fin.ext (by show r.val / 8 = p.val; omega)
  have hq : (⟨r.val % 8, by omega⟩ : Fin 8) = q := Fin.ext (by show r.val % 8 = q.val; omega)
  rw [hp, hq]

/-- A bias laid out as one row, at a column. -/
theorem bias1_apply (x : S768.Idx → EReal) (j : Fin 768) : shapeCast S1x768 x shapeCasts_S768_S1x768 (ix2 0 j) = x (ix1 j) := by
  pointwise

theorem bias2_apply (x : S100000.Idx → EReal) (v : Fin 100000) :
    shapeCast S1x100000 x shapeCasts_S100000_S1x100000 (ix2 0 v) = x (ix1 v) := by
  pointwise

/-- The program's result, entry by entry. -/
theorem value (c : Dev nD) : shapeCast S32x8x100000 (logits m c) shapeCasts_S256x100000_S32x8x100000
    = result (m ((c : Thread nD τ).loc main_arg0)) (m ((c : Thread nD τ).loc main_arg1)) (m ((c : Thread nD τ).loc main_arg2))
        (m ((c : Thread nD τ).loc main_arg3)) (m ((c : Thread nD τ).loc main_arg4)) := by
  funext i
  obtain ⟨p, q, v, rfl⟩ : ∃ (p : Fin 32) (q : Fin 8) (v : Fin 100000), i = ix3 p q v := ⟨i 0, i 1, i 2, eq_ix3 i⟩
  unfold logits acts
  pointwise
  rw [V_main_call0_v2, bias2_apply, V_main_arg3]
  refine congrArg (· + _) (Finset.sum_congr rfl fun j _ => ?_)
  rw [activation_apply, V_main_call0_v0, V_main_call0_v1, V_main_arg1, bias1_apply]
  refine congrArg (· * _) (congrArg gelu (congrArg (· + _) (Finset.sum_congr rfl fun k _ => ?_)))
  rw [flatten_apply _ p q _ rfl]
  rfl

/-! ## The run -/

/-- The program's result on a device: the function of its arguments that the reference is shown to compute too. -/
abbrev out (c : Dev nD) : Buf (Elt Ideal) ((c.tc : Thread nD τ).loc main_v0) :=
  result (m ((c : Thread nD τ).loc main_arg0)) (m ((c : Thread nD τ).loc main_arg1)) (m ((c : Thread nD τ).loc main_arg2))
    (m ((c : Thread nD τ).loc main_arg3)) (m ((c : Thread nD τ).loc main_arg4))

/-- How the program is to end: the result computed, the arguments unchanged and the counters at zero. -/
abbrev Ended (r : PUnit × MemSt nD τ sig (Elt Ideal)) : Prop :=
  (∀ c : Dev nD, r.2.mem ((c.tc : Thread nD τ).loc main_v0) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0

/-- What the launch theorem says at the end is what is to be shown. -/
theorem ended_of (r : PUnit × MemSt nD τ sig (Elt Ideal))
    (h : Pipeline.FramePost cfgs (dats m) 0 (Pipeline.afterTail₀ cfgs (dats m) 0 (V0 m) [hostOps1]) r ∧ r.2.sem = fun _ => 0) : Ended m r :=
  ⟨fun c =>
    ⟨((h.1 c).2 main_v0 (Pipeline.mem_restRefs_of main_v0 (by decide) (by decide))).trans ((tail_main_v0 m c).trans (value m c)),
     ((h.1 c).2 main_arg0 (Pipeline.mem_restRefs_of main_arg0 (by decide) (by decide))).trans (W_main_arg0 m (dats m) c),
     ((h.1 c).1 1).trans (((dats m 0 c).arrAt_in 1 rfl _).trans (V_main_arg1 m c)),
     ((h.1 c).2 main_arg2 (Pipeline.mem_restRefs_of main_arg2 (by decide) (by decide))).trans (W_main_arg2 m (dats m) c),
     ((h.1 c).1 3).trans (((dats m 0 c).arrAt_in 3 rfl _).trans (V_main_arg3 m c)),
     ((h.1 c).2 main_arg4 (Pipeline.mem_restRefs_of main_arg4 (by decide) (by decide))).trans (W_main_arg4 m (dats m) c)⟩, h.2⟩

-- the launch theorem's implicit arguments are found by unifying its conclusion with this one
set_option backward.isDefEq.respectTransparency.types false in
/-- From any memory with zero counters the program runs to its end, its result computed, its arguments unchanged and
    its counters at zero. -/
theorem run : θ_run defs (onTc (τ := τ) (main (F := Ideal))) (s₀ m ρ) (Ended m) :=
  Pipeline.θ_run_frame_around_track cfgs (dats m) 0 launch0 defs₀ 𝒱₀ m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hmain := hmain m 𝒱₀) (hA := fun _ _ => rfl)
    (hin := fun c => by show _ ⊢ carried m c 0; unfold carried; rw [if_pos rfl])
    (hout := fun c => by show carried m c grid0.N ⊢ _; exact carried_any m c _)
    (Q' := Ended m) (hQ' := ended_of m)

/-- The idealized program runs to its end with its arguments unchanged and every counter at zero. -/
theorem quiescent : Cert.quiescent_KernelIdeal := fun m ρ _ =>
  (θ_run defs _ _).mono (fun _ h => ⟨fun c => (h.1 c).2, h.2⟩) (run m ρ)

end Cert.KernelIdeal.Run

end
-- ==== Proof.ReferenceValue.lean ====
/-
  The reference program: its run, and its result entry by entry.
-/
module

public import proofs.«01_k».proof.Defs
public import proofs.«01_k».proof.Proof.Gen.ReferenceIdeal.Run
public import proofs.«01_k».proof.Proof.Payload
public import Idealize.ShloMosaic.Lib.Quiescent

@[expose] public section

noncomputable section

namespace Cert.ReferenceIdeal.Proof

open Cert.ReferenceIdeal Cert.ReferenceIdeal.Gen
open Idealize.ShloMosaic Idealize.ShloMosaic.TcCoe Idealize.SL.Sem
open Cert.Math (gelu result)

/-- The reference runs to its end with its arguments unchanged and every counter at zero. -/
theorem quiescent : Cert.quiescent_ReferenceIdeal := fun m ρ _ =>
  (θ_run defs _ _).mono (fun r h => ⟨fun c => (h c).2, sem_eq_zero_of_no_sems (by decide) r.2⟩) (Value.run (F := Ideal) m ρ)

/-- The constant `0.5`. -/
theorem half_value : Ideal.ofBits .f32 0x3F000000#32 = ((1 / 2 : ℝ) : EReal) := by
  simp [Ideal.ofBits, Ideal.ieee, -EReal.coe_mul]; norm_num

/-- The reference's root of a half. -/
theorem root_of_half : Host.sqrt (F := Ideal) (constant S_ .f32 0x3F000000#32) = fun _ => ((Real.sqrt (1 / 2) : ℝ) : EReal) := by
  funext j
  pointwise
  rw [half_value, Ideal.sqrt_coe, if_neg (by norm_num)]

/-- The reference's GELU, in the complementary error function of the negated argument, is the kernel's. -/
theorem gelu_erfc (x : EReal) :
    Ideal.ofBits .f32 0x3F000000#32 * x * Ideal.erfc (-x * ((Real.sqrt (1 / 2) : ℝ) : EReal)) = gelu x := by
  unfold gelu
  rw [EReal.neg_mul, Ideal.erfc_neg]

/-- The reference's composed value is the result, entry by entry. -/
theorem reference_value (T : FVec Ideal S32x8x2048 .f32) (A : FVec Ideal S2048x768 .f32) (a : FVec Ideal S768 .f32)
    (B : FVec Ideal S768x100000 .f32) (b : FVec Ideal S100000 .f32) (P : FVec Ideal S32x8x768 .f32)
    (hP : P = addf (F := Ideal) (φ := .f32) (Host.dotGeneral dot_S32x8x2048_S2048x768_S32x8x768_2_0_01_1_n_n none T A)
      (broadcastInDim S32x8x768 ![0, 1, 2] bcast_S1x1x768_S32x8x768_0_1_2 (broadcastInDim S1x1x768 ![2] bcast_S768_S1x1x768_2 a))) :
    addf (F := Ideal) (φ := .f32) (Host.dotGeneral dot_S32x8x768_S768x100000_S32x8x100000_2_0_01_1_n_n none
        (mulf (mulf (broadcastInDim S32x8x768 ![] bcast_S_S32x8x768 (constant S_ .f32 0x3F000000#32)) P)
          (Host.erfc (mulf (Host.negf P) (broadcastInDim S32x8x768 ![] bcast_S_S32x8x768 (Host.sqrt (constant S_ .f32 0x3F000000#32))))))
        B) (broadcastInDim S32x8x100000 ![0, 1, 2] bcast_S1x1x100000_S32x8x100000_0_1_2 (broadcastInDim S1x1x100000 ![2] bcast_S100000_S1x1x100000_2 b))
      = result T A a B b := by
  rw [root_of_half]
  funext i
  rw [eq_ix3 i]
  generalize i 0 = p, i 1 = q, i 2 = v
  subst hP
  unfold result
  pointwise
  simp only [gelu_erfc]

/-- The reference's run, its result spelt as the function both programs compute. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (reference_value _ _ _ _ _ _ rfl), (h c).2⟩) (Value.run (F := Ideal) m ρ)

end Cert.ReferenceIdeal.Proof

end
-- ==== Proof.lean ====
/-
  The certificate: the kernel, its idealization and the reference each run to their end with their arguments unchanged
  and every semaphore counter at zero; the idealization replaces one literal by the root of a half; and over the
  extended reals kernel and reference compute the same result.
-/
module

public import proofs.«01_k».proof.Defs
public import proofs.«01_k».proof.Proof.KernelFrame
public import proofs.«01_k».proof.Proof.KernelValue
public import proofs.«01_k».proof.Proof.ReferenceValue

@[expose] public section

noncomputable section

namespace Cert.Proof

open Idealize.ShloMosaic Idealize.SL.Sem

/-- The idealization's one replacement is the sanctioned one. -/
theorem preserves : Cert.preserves_Kernel_KernelIdeal :=
  IdealRules.named_const.statement Cert.KernelIdeal.κ "sqrt_half" .f32 0x3F3504F3#32 _ rfl

/-- Kernel and reference compute the same result over the extended reals: each computes the one function of its
    arguments, and the arguments agree. -/
theorem algebraic : Cert.algebraic_KernelIdeal_ReferenceIdeal := fun m g m' g' _ same =>
  ⟨fun c => Cert.KernelIdeal.Run.out m c,
   (θ_run Cert.KernelIdeal.defs _ _).mono (fun _ h c => h.1 c) (Cert.KernelIdeal.Run.run m g),
   (θ_run Cert.ReferenceIdeal.defs _ _).mono (fun _ h c => ⟨(h c).1.trans (by
      obtain ⟨e0, e1, e2, e3, e4⟩ := same c
      rw [e0, e1, e2, e3, e4]), (h c).2⟩) (Cert.ReferenceIdeal.Proof.run m' g')⟩

theorem claim : Cert.Claim := ⟨Cert.Kernel.Gen.facts, Cert.KernelIdeal.Gen.facts, Cert.ReferenceIdeal.Gen.facts,
  Cert.Kernel.FrameProof.quiescent, Cert.KernelIdeal.Run.quiescent, Cert.ReferenceIdeal.Proof.quiescent, preserves, algebraic⟩

end Cert.Proof

end
